-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_labels_in_range [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_labels_in_range [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel)
    ∧ quiescent_KernelIdeal (hKernelIdeal := hKernelIdeal)
    ∧ quiescent_KernelIdeal_pre_labels_in_range (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal_pre_labels_in_range (hKernelIdeal := hKernelIdeal) (hReferenceIdeal := hReferenceIdeal) (hPre_labels_in_range := hPre_labels_in_range)
-- ==== Pre_labels_in_range.lean ====
abbrev S16384x1000 : Shape := ⟨2, ![16384, 1000]⟩
abbrev S16384 : Shape := ⟨1, ![16384]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S16384x1000 .f32) (main_arg1 : IVec S16384 32) : IVec S16384 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1000#32
  let main_v2 : IVec S16384 32 := broadcastInDim S16384 ![] bcast_S_S16384 main_c_0
  let main_v3 : IVec S16384 1 := cmpi .slt main_arg1 main_v2
  let main_v4 : IVec S16384 1 := andi main_v1 main_v3
  main_v4
-- ==== Kernel.lean ====
abbrev S16384x1000 : Shape := ⟨2, ![16384, 1000]⟩
abbrev S16384 : Shape := ⟨1, ![16384]⟩
abbrev S1000x16384 : Shape := ⟨2, ![1000, 16384]⟩
abbrev S8x1x2048 : Shape := ⟨3, ![8, 1, 2048]⟩
abbrev S1x1 : Shape := ⟨2, ![1, 1]⟩
abbrev S1000x2048 : Shape := ⟨2, ![1000, 2048]⟩
abbrev S1x1x2048 : Shape := ⟨3, ![1, 1, 2048]⟩
abbrev S1x2048 : Shape := ⟨2, ![1, 2048]⟩
abbrev S2048 : Shape := ⟨1, ![2048]⟩
abbrev S1x1000 : Shape := ⟨2, ![1, 1000]⟩
abbrev S1 : Shape := ⟨1, ![1]⟩
abbrev S1x1x1 : Shape := ⟨3, ![1, 1, 1]⟩
abbrev S_ : Shape := ⟨0, ![]⟩

abbrev nBuf : Space → Nat
  | .hbm => 8
  | .vmem => 4
  | .smem => 1
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S1000x16384, .f32⟩
  | .hbm, ⟨3, _⟩ => ⟨S8x1x2048, .i32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1000x2048, .f32⟩
  | .local _ .vmem, ⟨1, _⟩ => ⟨S1000x2048, .f32⟩
  | .local _ .vmem, ⟨2, _⟩ => ⟨S1x1x2048, .i32⟩
  | .local _ .vmem, ⟨3, _⟩ => ⟨S1x1x2048, .i32⟩
  | .local _ .smem, ⟨0, _⟩ => ⟨S1x1, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "neg_log2e" => some ((-((Real.log 2)⁻¹) : ℝ) : EReal)
  | _ => none
-- ==== ReferenceIdeal.lean ====
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S16384x2 : Shape := ⟨2, ![16384, 2]⟩

abbrev nBuf : Space → Nat
  | .hbm => 81
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S16384, .i32⟩
  | .hbm, ⟨3, _⟩ => ⟨S_, .f32⟩
  | .hbm, ⟨4, _⟩ => ⟨S16384x1000, .f32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S16384x1, .i32⟩
  | .hbm, ⟨21, _⟩ => ⟨S16384x2, .i32⟩
  | .hbm, ⟨22, _⟩ => ⟨S_, .f32⟩
  | .hbm, ⟨23, _⟩ => ⟨S16384, .f32⟩
  | .hbm, ⟨24, _⟩ => ⟨S16384x1000, .f32⟩
  | .hbm, ⟨25, _⟩ => ⟨S16384x1000, .f32⟩
  | .hbm, ⟨26, _⟩ => ⟨S16384x1000, .f32⟩
  | .hbm, ⟨27, _⟩ => ⟨S_, .f32⟩
  | .hbm, ⟨28, _⟩ => ⟨S16384x1000, .f32⟩
  | .hbm, ⟨29, _⟩ => ⟨S16384x1000, .f32⟩
  | .hbm, ⟨30, _⟩ => ⟨S_, .f32⟩
  | .hbm, ⟨31, _⟩ => ⟨S16384x1000, .f32⟩
  | .hbm, ⟨32, _⟩ => ⟨S16384x1000, .f32⟩
  | .hbm, ⟨33, _⟩ => ⟨S16384x1000, .f32⟩
  | .hbm, ⟨34, _⟩ => ⟨S16384x1, .f32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S16384x1, .f32⟩
  | .hbm, ⟨40, _⟩ => ⟨S16384x1000, .f32⟩
  | .hbm, ⟨41, _⟩ => ⟨S16384x1000, .f32⟩
  | .hbm, ⟨42, _⟩ => ⟨S_, .f32⟩
  | .hbm, ⟨43, _⟩ => ⟨S16384x1000, .f32⟩
  | .hbm, ⟨44, _⟩ => ⟨S16384x1000, .i1⟩
  | .hbm, ⟨45, _⟩ => ⟨S16384x1000, .f32⟩
  | .hbm, ⟨46, _⟩ => ⟨S_, .i32⟩
  | .hbm, ⟨47, _⟩ => ⟨S16384, .i32⟩
  | .hbm, ⟨48, _⟩ => ⟨S16384, .i1⟩
  | .hbm, ⟨49, _⟩ => ⟨S_, .i32⟩
  | .hbm, ⟨50, _⟩ => ⟨S16384, .i32⟩
  | .hbm, ⟨51, _⟩ => ⟨S16384, .i32⟩
  | .hbm, ⟨52, _⟩ => ⟨S16384, .i32⟩
  | .hbm, ⟨53, _⟩ => ⟨S_, .i32⟩
  | .hbm, ⟨54, _⟩ => ⟨S16384, .i32⟩
  | .hbm, ⟨55, _⟩ => ⟨S16384, .i1⟩
  | .hbm, ⟨56, _⟩ => ⟨S_, .i32⟩
  | .hbm, ⟨57, _⟩ => ⟨S16384, .i32⟩
  | .hbm, ⟨58, _⟩ => ⟨S16384, .i32⟩
  | .hbm, ⟨59, _⟩ => ⟨S16384, .i32⟩
  | .hbm, ⟨60, _⟩ => ⟨S16384x1, .i32⟩
  | .hbm, ⟨61, _⟩ => ⟨S16384x1, .i32⟩
  | .hbm, ⟨62, _⟩ => ⟨S16384x2, .i32⟩
  | .hbm, ⟨63, _⟩ => ⟨S_, .f32⟩
  | .hbm, ⟨64, _⟩ => ⟨S16384, .f32⟩
  | .hbm, ⟨65, _⟩ => ⟨S16384x1000, .f32⟩
  | .hbm, ⟨66, _⟩ => ⟨S_, .f32⟩
  | .hbm, ⟨67, _⟩ => ⟨S16384x1000, .f32⟩
  | .hbm, ⟨68, _⟩ => ⟨S16384x1000, .f32⟩
  | .hbm, ⟨69, _⟩ => ⟨S16384x1000, .f32⟩
  | .hbm, ⟨70, _⟩ => ⟨S16384x1000, .f32⟩
  | .hbm, ⟨71, _⟩ => ⟨S16384x1000, .f32⟩
  | .hbm, ⟨72, _⟩ => ⟨S16384x1000, .f32⟩
  | .hbm, ⟨73, _⟩ => ⟨S16384x1000, .f32⟩
  | .hbm, ⟨74, _⟩ => ⟨S16384x1000, .f32⟩
  | .hbm, ⟨75, _⟩ => ⟨S16384x1000, .f32⟩
  | .hbm, ⟨76, _⟩ => ⟨S16384x1000, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_8 : Ref sig .tc := ⟨.hbm, 46, rfl⟩
abbrev main_v34 : Ref sig .tc := ⟨.hbm, 47, rfl⟩
abbrev main_v35 : Ref sig .tc := ⟨.hbm, 48, rfl⟩
abbrev main_c_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_10 : Ref sig .tc := ⟨.hbm, 53, rfl⟩
abbrev main_v39 : Ref sig .tc := ⟨.hbm, 54, rfl⟩
abbrev main_v40 : Ref sig .tc := ⟨.hbm, 55, rfl⟩
abbrev main_c_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_14 : Ref sig .tc := ⟨.hbm, 77, rfl⟩
abbrev main_v59 : Ref sig .tc := ⟨.hbm, 78, rfl⟩
abbrev main_cst_15 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Proof.Scalar.lean ====
/- The loss of ONE logit, over the extended reals: the kernel's formula and the reference's, and the
   theorem that they are equal. Nothing here mentions a program or an array.

   The two differ in three ways. The kernel spells `log (1 + exp (-|x|))` in base two and rescales; it
   decides whether a logit is kept by comparing the logit with the threshold's log-odds, where the
   reference compares sigmoids; and it takes the label's logit off at the end, where the reference
   multiplies by a one-hot target. -/
module

public import Idealize.ShloMosaic.PureOps.Ideal
public import Idealize.ShloMosaic.PureOps.Ideal.Laws

@[expose] public section

noncomputable section

namespace Amce

open Idealize.ShloMosaic

/-! ## The exponentials at the infinities -/

theorem exp_bot : Ideal.exp ⊥ = 0 := rfl
theorem exp_top : Ideal.exp ⊤ = ⊤ := rfl
theorem exp_coe (r : ℝ) : Ideal.exp (r : EReal) = (Real.exp r : EReal) := rfl
theorem exp2_bot : Ideal.exp2 ⊥ = 0 := rfl

/-! ## The sigmoid -/

/-- The sigmoid at an extended real, as a real number: 0 at minus infinity, 1 at plus infinity. -/
def sgm : EReal → ℝ
  | ⊥ => 0
  | ⊤ => 1
  | (r : ℝ) => 1 / (1 + Real.exp (-r))

/-- The sigmoid at the infinities. -/
theorem sgm_bot : sgm ⊥ = 0 := rfl
theorem sgm_top : sgm ⊤ = 1 := rfl

/-- The logistic function never leaves the reals. -/
theorem logistic_eq_sgm (x : EReal) : Ideal.logistic x = (sgm x : EReal) := by
  induction x using EReal.rec with
  | bot =>
    have h : (1 : EReal) + ⊤ = ⊤ := EReal.add_top_of_ne_bot (by rw [← EReal.coe_one]; exact EReal.coe_ne_bot 1)
    simp [Ideal.logistic, Ideal.div, exp_top, sgm_bot, h]
  | top => simp [Ideal.logistic, Ideal.div, exp_bot, sgm_top]
  | coe r =>
    have hpos : (0 : ℝ) < 1 + Real.exp (-r) := by positivity
    show Ideal.div 1 (1 + Ideal.exp (-(r : EReal))) = _
    have he : (1 : EReal) + Ideal.exp (-(r : EReal)) = ((1 + Real.exp (-r) : ℝ) : EReal) := by
      rw [← EReal.coe_neg, exp_coe]; simp
    rw [he, Ideal.div_coe hpos.ne', one_mul]
    rfl

/-- The sigmoid at a real number. -/
theorem sgm_coe (r : ℝ) : sgm (r : EReal) = 1 / (1 + Real.exp (-r)) := rfl

/-- The sigmoid is positive off minus infinity. -/
theorem sgm_pos {x : EReal} (h : x ≠ ⊥) : 0 < sgm x := by
  induction x using EReal.rec with
  | bot => exact absurd rfl h
  | top => exact one_pos
  | coe r => rw [sgm_coe]; positivity

/-- The sigmoid is at most one. -/
theorem sgm_le_one (x : EReal) : sgm x ≤ 1 := by
  induction x using EReal.rec with
  | bot => exact zero_le_one
  | top => exact le_refl _
  | coe r =>
    rw [sgm_coe, div_le_one (by positivity)]
    linarith [Real.exp_pos (-r)]

/-- The sigmoid is monotone. -/
theorem sgm_mono {x y : EReal} (h : x ≤ y) : sgm x ≤ sgm y := by
  induction x using EReal.rec with
  | bot =>
    by_cases hy : y = ⊥
    · rw [hy]
    · exact (sgm_pos hy).le
  | top => rw [top_le_iff.mp h]
  | coe r =>
    induction y using EReal.rec with
    | bot => exact absurd h (by simp)
    | top => exact sgm_le_one _
    | coe s =>
      have hrs : r ≤ s := EReal.coe_le_coe_iff.mp h
      rw [sgm_coe, sgm_coe]
      apply one_div_le_one_div_of_le (by positivity)
      have : Real.exp (-s) ≤ Real.exp (-r) := Real.exp_le_exp.mpr (by linarith)
      linarith

/-- Above a threshold strictly between 0 and 1: the logit is above the threshold's log-odds exactly
    when its sigmoid is above the threshold. -/
theorem logit_lt_iff {T : ℝ} (h0 : 0 < T) (h1 : T < 1) (x : EReal) :
    ((Real.log T - Real.log (1 - T) : ℝ) : EReal) < x ↔ T < sgm x := by
  induction x using EReal.rec with
  | bot => simp [sgm_bot, h0.le]
  | top => simpa [sgm_top] using ⟨fun _ => h1, fun _ => EReal.coe_lt_top _⟩
  | coe r =>
    have h1' : 0 < 1 - T := by linarith
    rw [EReal.coe_lt_coe_iff, sgm_coe, lt_div_iff₀ (by positivity), ← Real.log_div h0.ne' h1'.ne',
      Real.log_lt_iff_lt_exp (by positivity), div_lt_iff₀ h1']
    have he : Real.exp r * Real.exp (-r) = 1 := by rw [← Real.exp_add]; simp
    have hp := Real.exp_pos r
    have hn := Real.exp_pos (-r)
    constructor <;> intro h <;> nlinarith

/-! ## The softplus of minus the magnitude -/

/-- `log (1 + exp (-|x|))`, the reference's spelling. -/
def sp (x : EReal) : EReal := Ideal.log1p (Ideal.exp (-(max x (-x))))

/-- The logarithm of a real number above zero. -/
theorem log_coe {r : ℝ} (h : 0 < r) : Ideal.log (r : EReal) = (Real.log r : EReal) := by
  show (if r ≤ 0 then (⊥ : EReal) else (Real.log r : EReal)) = _
  rw [if_neg (not_le.mpr h)]

/-- The logarithm of one is zero. -/
theorem log_one : Ideal.log 1 = 0 := by
  have h := log_coe one_pos
  rwa [Real.log_one, EReal.coe_one, EReal.coe_zero] at h

/-- The softplus is zero at minus infinity. -/
theorem sp_bot : sp ⊥ = 0 := by
  show Ideal.log (1 + Ideal.exp (-(max ⊥ (-⊥)))) = 0
  simp [exp_bot, log_one]

/-- The softplus in base two, rescaled by `ln 2` and its reciprocal, is the softplus. -/
theorem sp_base_two (x : EReal) :
    ((Real.log 2 : ℝ) : EReal) * (Ideal.log (1 + Ideal.exp2 (max x (-x) * ((-(Real.log 2)⁻¹ : ℝ) : EReal)))
      * (((Real.log 2)⁻¹ : ℝ) : EReal)) = sp x := by
  have h2 : 0 < Real.log 2 := Real.log_pos (by norm_num)
  have hinf : ((Real.log 2 : ℝ) : EReal) * (Ideal.log (1 + Ideal.exp2 (⊤ * ((-(Real.log 2)⁻¹ : ℝ) : EReal)))
      * (((Real.log 2)⁻¹ : ℝ) : EReal)) = 0 := by
    rw [EReal.top_mul_coe_of_neg (by simpa using h2)]
    simp [exp2_bot, log_one]
  induction x using EReal.rec with
  | bot => rw [sp_bot]; simpa using hinf
  | top =>
    have : sp ⊤ = 0 := by
      show Ideal.log (1 + Ideal.exp (-(max ⊤ (-⊤)))) = 0
      simp [exp_bot, log_one]
    rw [this]; simpa using hinf
  | coe r =>
    have hmax : max (r : EReal) (-(r : EReal)) = ((max r (-r) : ℝ) : EReal) := by
      rw [← EReal.coe_neg]; exact (EReal.coe_strictMono.monotone.map_max (a := r) (b := -r)).symm
    unfold sp Ideal.log1p
    rw [hmax]
    generalize max r (-r) = a
    have e1 : Ideal.exp2 ((a : EReal) * ((-(Real.log 2)⁻¹ : ℝ) : EReal)) = (Real.exp (-a) : EReal) := by
      rw [← EReal.coe_mul]
      show ((Real.rpow 2 (a * -(Real.log 2)⁻¹) : ℝ) : EReal) = _
      rw [Real.rpow_eq_pow, Real.rpow_def_of_pos (by norm_num)]
      congr 2
      field_simp
    have e2 : Ideal.exp (-(a : EReal)) = (Real.exp (-a) : EReal) := by rw [← EReal.coe_neg]; rfl
    have e3 : (1 : EReal) + (Real.exp (-a) : EReal) = ((1 + Real.exp (-a) : ℝ) : EReal) := by simp
    rw [e1, e2, e3, log_coe (by positivity), ← EReal.coe_mul, ← EReal.coe_mul]
    congr 1
    field_simp

/-! ## One logit's loss -/

/-- The kernel's bound on a logit in a column whose greatest logit is `m`: the log-odds of
    `sigmoid m - δ` where that is positive, minus infinity where it is not. -/
def bound (δ m : EReal) : EReal :=
  if 0 < Ideal.logistic m - δ then
    Ideal.log (Ideal.logistic m - δ) - Ideal.log1p (0 - (Ideal.logistic m - δ))
  else ⊥

/-- The kernel's loss of a logit `x` in a column whose greatest logit is `m`. -/
def kerTerm (δ m x : EReal) (lab : Prop) [Decidable lab] : EReal :=
  (if bound δ m < x ∨ lab then
      max x 0 + ((Real.log 2 : ℝ) : EReal) * (Ideal.log (1 + Ideal.exp2 (max x (-x) * ((-(Real.log 2)⁻¹ : ℝ) : EReal)))
        * (((Real.log 2)⁻¹ : ℝ) : EReal))
    else 0) - (if lab then x else 0)

/-- The reference's loss of a logit `x` in a row whose greatest sigmoid is `M`. -/
def refTerm (δ M x : EReal) (lab : Prop) [Decidable lab] : EReal :=
  (if lab then 1 else if 0 < Ideal.logistic x - (M - δ) then 1 else 0)
    * ((max x 0 - x * (if lab then 1 else 0)) + sp x)

/-- Whether the kernel keeps a logit above minus infinity is whether the reference does. -/
theorem bound_lt_iff {d : ℝ} (hd : 0 < d) (m : EReal) {x : EReal} (hx : x ≠ ⊥) :
    bound (d : EReal) m < x ↔ 0 < Ideal.logistic x - (Ideal.logistic m - (d : EReal)) := by
  have hm := sgm_le_one m
  unfold bound
  rw [logistic_eq_sgm m, logistic_eq_sgm x, ← EReal.coe_sub]
  set T : ℝ := sgm m - d with hT
  simp only [← EReal.coe_sub, ← EReal.coe_zero, EReal.coe_lt_coe_iff, sub_pos (a := sgm x)]
  by_cases h0 : 0 < T
  · have h1 : T < 1 := by linarith
    rw [if_pos h0, log_coe h0]
    have e : Ideal.log1p ((0 - T : ℝ) : EReal) = ((Real.log (1 - T) : ℝ) : EReal) := by
      unfold Ideal.log1p
      rw [← EReal.coe_one, ← EReal.coe_add, show (1 : ℝ) + (0 - T) = 1 - T by ring,
        log_coe (by linarith)]
    rw [e, ← EReal.coe_sub]
    exact logit_lt_iff h0 h1 x
  · rw [if_neg h0]
    exact ⟨fun _ => lt_of_le_of_lt (not_lt.mp h0) (sgm_pos hx), fun _ => bot_lt_iff_ne_bot.mpr hx⟩

/-- THE LOSS OF ONE LOGIT: the kernel's is the reference's, at every extended real. -/
theorem kerTerm_eq_refTerm {d : ℝ} (hd : 0 < d) (m x : EReal) (lab : Prop) [Decidable lab] :
    kerTerm (d : EReal) m x lab = refTerm (d : EReal) (Ideal.logistic m) x lab := by
  unfold kerTerm refTerm
  rw [sp_base_two]
  by_cases hl : lab
  · rw [if_pos (Or.inr hl), if_pos hl, if_pos hl, if_pos hl, one_mul, mul_one, sub_eq_add_neg, sub_eq_add_neg,
      add_right_comm]
  · simp only [hl, or_false, if_false, sub_zero, mul_zero]
    by_cases hx : x = ⊥
    · subst hx
      simp [sp_bot]
    · simp only [bound_lt_iff hd m hx]
      split <;> simp

/-- The step under the greatest sigmoid, `0.1` as a binary32 number, is a positive real. -/
theorem step_pos : ∃ d : ℝ, 0 < d ∧ Ideal.ofBits .f32 0x3DCCCCCD#32 = (d : EReal) := by
  refine ⟨13421773 * (2 : ℝ) ^ (-27 : ℤ), by positivity, ?_⟩
  simp [Ideal.ofBits, Ideal.ieee, -EReal.coe_mul]

/-- The kernel's bound starts from the least extended real: the pattern of minus infinity. -/
theorem ofBits_neg_inf : Ideal.ofBits .f32 0xFF800000#32 = ⊥ := by
  simp [Ideal.ofBits, Ideal.ieee]

end Amce

end
-- ==== Proof.KerSum.lean ====
/- What one grid point adds to the accumulator, given the block's losses and the logits to take off: the
   sum of the differences over the block's 1000 classes and 2048 samples. -/
module

public import proofs.«01_k».proof.Proof.Gen.KernelIdeal.Skeleton
public import Idealize.ShloMosaic.Lib.Pointwise

@[expose] public section

set_option maxRecDepth 16384

noncomputable section

namespace Amce

open Idealize.ShloMosaic Cert.KernelIdeal Cert.KernelIdeal.Gen

/-- The product with a row of ones sums the classes, the reduction sums the samples, and the total is
    added to what the accumulator held. -/
theorem pay1_at (a b : FVec Ideal S1000x2048 .f32) (v : EReal) :
    k0_pay1 (F := Ideal) a b v = v + ∑ j : Fin 2048, ∑ i : Fin 1000, (a (ix2 i j) - b (ix2 i j)) := by
  pointwise [k0_pay1]
  simp only [Finset.univ_unique, Finset.sum_singleton]

end Amce

end
-- ==== Proof.KerBlock.lean ====
/- The kernel's body on one block, element by element: at class `i` and sample `j` of the block, the loss
   less the label's logit is `kerTerm`, over the sample's greatest logit. -/
module

public import proofs.«01_k».proof.Proof.Scalar
public import proofs.«01_k».proof.Proof.KerSum

@[expose] public section

set_option maxRecDepth 16384

noncomputable section

namespace Amce

open Idealize.ShloMosaic Cert.KernelIdeal Cert.KernelIdeal.Gen

/-- The step under the greatest sigmoid: `0.1` as a binary32 number. -/
abbrev step : EReal := Ideal.ofBits .f32 0x3DCCCCCD#32

/-- The greatest of 1000 logits. -/
def top (f : Fin 1000 → EReal) : EReal := Finset.univ.fold max ⊥ f

/-- A one-bit choice on the equality of two words. -/
theorem select_eq_word {α : Type} (u w : BitVec 32) (a b : α) :
    Scalar.select (IntOp.cmpi .eq u w) a b = if u = w then a else b := by
  by_cases h : u = w <;> simp [Scalar.select, IntOp.cmpi, h, beq_eq_false_iff_ne.mpr]

/-- A one-bit choice on a decided proposition or the equality of two words. -/
theorem select_or_word {α : Type} (p : Prop) [Decidable p] (u w : BitVec 32) (a b : α) :
    Scalar.select (IntOp.ori (BitVec.ofBool (decide p)) (IntOp.cmpi .eq u w)) a b = if p ∨ u = w then a else b := by
  by_cases h : u = w <;> by_cases q : p <;> simp [Scalar.select, IntOp.cmpi, IntOp.ori, h, q, beq_eq_false_iff_ne.mpr]

/-- The logit taken off: the label's, and zero elsewhere. -/
theorem pay5_at (x : Vec Ideal S1000x2048 .f32) (l : Vec Ideal S1x1x2048 .i32) (i : Fin 1000) (j : Fin 2048) :
    k0_pay5 x l (ix2 i j) = if BitVec.ofNat 32 i.val = l (ix3 0 0 j) then x (ix2 i j) else 0 := by
  pointwise [k0_pay5, k0_pay3, k0_pay2]
  exact select_eq_word _ _ _ _

/-- The row of greatest logits, one per sample of the block. -/
def greatest (x : Vec Ideal S1000x2048 .f32) : FVec Ideal S1x2048 .f32 :=
  shapeCast S1x2048 (multiReduction .maximumf [0] S2048 (k0_pay2 x) 0xFF800000#32 reduces_S1000x2048_S2048 (.inl rfl) rfl)
    shapeCasts_S2048_S1x2048

/-- Its entry at a sample is the greatest of the sample's 1000 logits. -/
theorem greatest_at (x : Vec Ideal S1000x2048 .f32) (j : Fin 2048) :
    greatest x (ix2 0 j) = top fun k => x (ix2 k j) := by
  pointwise [greatest, k0_pay2]
  rw [ofBits_neg_inf]
  rfl

/-- The row of thresholds: the greatest sigmoid less the step. -/
def threshRow (g : FVec Ideal S1x2048 .f32) : FVec Ideal S1x2048 .f32 :=
  subf (logistic g) (broadcast S1x2048 (Scalar.ofBits .f32 0x3DCCCCCD#32))

/-- The row of bounds on a logit, from the row of thresholds. -/
def boundRow (v : FVec Ideal S1x2048 .f32) : FVec Ideal S1x2048 .f32 :=
  select (cmpf .ogt v (broadcast S1x2048 (Scalar.ofBits .f32 0x00000000#32)))
    (subf (log v) (log1p (subf (broadcast S1x2048 (Scalar.ofBits .f32 0x00000000#32)) v)))
    (broadcast S1x2048 (Scalar.ofBits .f32 0xFF800000#32))

/-- Its entry at a sample is the bound of the sample's greatest logit. -/
theorem boundRow_at (g : FVec Ideal S1x2048 .f32) (j : Fin 2048) :
    boundRow (threshRow g) (ix2 0 j) = bound step (g (ix2 0 j)) := by
  pointwise [boundRow, threshRow]
  rw [ofBits_neg_inf]
  rfl

/-- The loss of every logit of the block against a target of zero. -/
def lossVec (x : FVec Ideal S1000x2048 .f32) : FVec Ideal S1000x2048 .f32 :=
  addf (maximumf x (broadcast S1000x2048 (Scalar.ofBits .f32 0x00000000#32)))
    (mulf (broadcast S1000x2048 (Named.named κ "ln2" 0x3F317218#32))
      (mulf (log (addf (broadcast S1000x2048 (Scalar.ofBits .f32 0x3F800000#32))
          (exp2 (mulf (absf x) (broadcast S1000x2048 (Named.named κ "neg_log2e" 0xBFB8AA3B#32))))))
        (broadcast S1000x2048 (Named.named κ "log2e" 0x3FB8AA3B#32))))

/-- It, element by element, the named constants at their values. -/
theorem lossVec_at (x : FVec Ideal S1000x2048 .f32) (i : Fin 1000) (j : Fin 2048) :
    lossVec x (ix2 i j) = max (x (ix2 i j)) 0 + ((Real.log 2 : ℝ) : EReal)
      * (Ideal.log (1 + Ideal.exp2 (max (x (ix2 i j)) (-x (ix2 i j)) * ((-(Real.log 2)⁻¹ : ℝ) : EReal)))
        * (((Real.log 2)⁻¹ : ℝ) : EReal)) := by
  pointwise [lossVec]
  rfl

/-- The kept losses as the body computes them: the row of bounds against every class. -/
theorem pay4_eq (x : Vec Ideal S1000x2048 .f32) (l : Vec Ideal S1x1x2048 .i32) :
    k0_pay4 x l = select (ori (cmpf .ogt (k0_pay2 x) (broadcastTo S1000x2048 (boundRow (threshRow (greatest x)))
        broadcasts_S1x2048_S1000x2048)) (k0_pay3 l)) (lossVec (k0_pay2 x))
      (broadcast S1000x2048 (Scalar.ofBits .f32 0x00000000#32)) := rfl

/-- The loss, where the logit is kept or is the label's, and zero elsewhere. -/
theorem pay4_at (x : Vec Ideal S1000x2048 .f32) (l : Vec Ideal S1x1x2048 .i32) (i : Fin 1000) (j : Fin 2048) :
    k0_pay4 x l (ix2 i j)
      = if bound step (top fun k => x (ix2 k j)) < x (ix2 i j) ∨ BitVec.ofNat 32 i.val = l (ix3 0 0 j) then
          max (x (ix2 i j)) 0 + ((Real.log 2 : ℝ) : EReal) * (Ideal.log (1 + Ideal.exp2 (max (x (ix2 i j)) (-x (ix2 i j))
            * ((-(Real.log 2)⁻¹ : ℝ) : EReal))) * (((Real.log 2)⁻¹ : ℝ) : EReal))
        else 0 := by
  rw [← greatest_at, ← boundRow_at, ← lossVec_at, pay4_eq]
  generalize lossVec = L
  generalize boundRow (threshRow (greatest x)) = g
  pointwise [k0_pay3, k0_pay2]
  exact select_or_word _ _ _ _ _

/-- ONE GRID POINT: the body adds to the accumulator the block's losses, over its samples and classes. -/
theorem block_sum (x : Vec Ideal S1000x2048 .f32) (l : Vec Ideal S1x1x2048 .i32) (v : EReal) :
    k0_pay1 (F := Ideal) (k0_pay4 x l) (k0_pay5 x l) v
      = v + ∑ j : Fin 2048, ∑ i : Fin 1000,
          kerTerm step (top fun k => x (ix2 k j)) (x (ix2 i j)) (BitVec.ofNat 32 i.val = l (ix3 0 0 j)) := by
  rw [pay1_at]
  simp only [pay4_at, pay5_at]
  rfl

end Amce

end
-- ==== Proof.KerValue.lean ====
/- What the kernel's run leaves in its result: the sum of `kerTerm` over all 16384 samples and 1000 classes,
   divided by the constant the program divides by.

   The accumulator is one element. The first grid point starts it from zero, every point adds its own
   2048 samples, and it is written back once, after the last. -/
module

public import proofs.«01_k».proof.Proof.KerBlock
public import proofs.«01_k».proof.Proof.Gen.KernelIdeal.Frame
public import Idealize.ShloMosaic.Lib.Pipeline.ValueKit
public import Idealize.ShloMosaic.Lib.StableHlo.Run

@[expose] public section

set_option maxRecDepth 16384

noncomputable section

namespace Amce

open Idealize.ShloMosaic Idealize.ShloMosaic.TcCoe Idealize.SL.Sem
open Cert.KernelIdeal Cert.KernelIdeal.Gen

variable (m : (ℓ : Loc nD τ sig) → Buf (Elt Ideal) ℓ)

/-- The losses of one block, summed over its samples and classes. -/
def blockLoss (x : Vec Ideal S1000x2048 .f32) (l : Vec Ideal S1x1x2048 .i32) : EReal :=
  ∑ j : Fin 2048, ∑ i : Fin 1000,
    kerTerm step (top fun k => x (ix2 k j)) (x (ix2 i j)) (BitVec.ofNat 32 i.val = l (ix3 0 0 j))

/-- The accumulator has one index. -/
theorem one_cell (y z : S1x1.Idx) : y = z := by
  funext a
  match a with
  | ⟨0, _⟩ => exact Subsingleton.elim (α := Fin 1) _ _
  | ⟨1, _⟩ => exact Subsingleton.elim (α := Fin 1) _ _

/-- The accumulator after the last point: the blocks' losses, summed over the points. -/
theorem acc_last (c : Dev nD) (y : S1x1.Idx) :
    outsAt0 m c t0_7.val t0_7.isLt y = ∑ t : Fin cfg0.N, blockLoss (iblk m c 0 t) (iblk m c 1 t) := by
  rw [Pipeline.eq_sum_fin_of_reset_step_apply_last (fun n h => outsAt0 m c n h) 8 (fun _ => (0 : EReal))
    (fun t _ => blockLoss (iblk m c 0 t) (iblk m c 1 t))
    (fun t h j => by
      rw [outsAt0_A m c t h]; frame_out
      refine (block_sum _ _ _).trans (congrArg (· + _) ?_)
      pointwise)
    (fun t h j => by
      rw [outsAt0_B m c t h]; frame_out
      refine (block_sum _ _ _).trans (congrArg (· + _) ?_)
      exact congrArg (outsAt0 m c (t.val - 1) _) (one_cell _ _))
    (le_of_eq N_0) t0_7 rfl y, zero_add]

/-- Where the blocks lie: point `t` takes the `t`-th block of samples. -/
theorem idx : ∀ t : Fin cfg0.N, win0_0.index t = ![0, t.val] ∧ win0_1.index t = ![t.val, 0, 0]
    ∧ win0_2.index t = ![0, 0] := by decide +kernel

/-- The staged logits when the kernel starts: the logits transposed. -/
theorem entry_logits (c : Dev nD) (i : Fin 1000) (r : Fin 16384) :
    V m c main_v0 (ix2 i r) = m ((c.tc : Thread nD τ).loc main_arg0) (ix2 r i) := by
  show StableHlo.after hostOps0 _ (Proc.devRef .tc main_v0) _ = _
  after_results
  pointwise

/-- The staged labels when the kernel starts: the labels in blocks. -/
theorem entry_labels (c : Dev nD) (t : Fin 8) (j : Fin 2048) (h : t.val * 2048 + j.val < 16384) :
    V m c main_v1 (ix3 t 0 j) = m ((c.tc : Thread nD τ).loc main_arg1) (ix1 (⟨t.val * 2048 + j.val, h⟩ : Fin 16384)) := by
  show StableHlo.after hostOps0 _ (Proc.devRef .tc main_v1) _ = _
  after_results
  pointwise

/-- The logits' block: the transposed logits, at the block's samples. -/
theorem logits_block (c : Dev nD) (t : Fin cfg0.N) (i : Fin 1000) (j : Fin 2048) (h : t.val * 2048 + j.val < 16384) :
    (iblk m c 0 t : Vec Ideal S1000x2048 .f32) (ix2 i j)
      = m ((c.tc : Thread nD τ).loc main_arg0) (ix2 (⟨t.val * 2048 + j.val, h⟩ : Fin 16384) i) := by
  refine Eq.trans ?_ (entry_logits m c i _)
  blk_ext [iblk, idx t]

/-- The labels' block: the labels of the block's samples. -/
theorem labels_block (c : Dev nD) (t : Fin cfg0.N) (j : Fin 2048) (h : t.val * 2048 + j.val < 16384) :
    (iblk m c 1 t : Vec Ideal S1x1x2048 .i32) (ix3 0 0 j)
      = m ((c.tc : Thread nD τ).loc main_arg1) (ix1 (⟨t.val * 2048 + j.val, h⟩ : Fin 16384)) := by
  refine Eq.trans ?_ (entry_labels m c (t.cast N_0) j h)
  blk_ext [iblk, idx t]
  rfl

/-- The kernel's losses of all samples and classes, summed. -/
def total (x : Vec Ideal S16384x1000 .f32) (l : Vec Ideal S16384 .i32) : EReal :=
  ∑ r : Fin 16384, ∑ i : Fin 1000,
    kerTerm step (top fun k => x (ix2 r k)) (x (ix2 r i)) (BitVec.ofNat 32 i.val = l (ix1 r))

/-- The blocks' losses are all the losses. -/
theorem sum_blocks (c : Dev nD) :
    ∑ t : Fin cfg0.N, blockLoss (iblk m c 0 t) (iblk m c 1 t)
      = total (m ((c.tc : Thread nD τ).loc main_arg0)) (m ((c.tc : Thread nD τ).loc main_arg1)) := by
  unfold blockLoss total
  refine Fin.sum_mul_add_congr (fun t j h => ?_) (congrArg (· * 2048) N_0).symm
  simp only [fun i => logits_block m c t i j h, labels_block m c t j h]

/-- The accumulator's array after the region: the total. -/
theorem region_result (c : Dev nD) :
    (dats m 0 c).arrAt 2 cfg0.N
      = fun _ => total (m ((c.tc : Thread nD τ).loc main_arg0)) (m ((c.tc : Thread nD τ).loc main_arg1)) := by
  refine (dats m 0 c).arrAt_eq_of_after_last 2 t0_7 (by decide +kernel) _ fun y => ?_
  rw [after0_2]
  exact (acc_last m c _).trans (sum_blocks m c)

/-- What the lines after the region leave in the program's result: the total over the number of samples. -/
theorem tail_result (c : Dev nD) :
    Pipeline.afterTail₀ cfgs (dats m) 0 (V0 m) [hostOps1] c main_v4
      = fun _ => Ideal.div (total (m ((c.tc : Thread nD τ).loc main_arg0)) (m ((c.tc : Thread nD τ).loc main_arg1)))
          (Ideal.ofBits .f32 0x46800000#32) := by
  unfold Pipeline.afterTail₀
  show StableHlo.after hostOps1 _ (Proc.devRef .tc main_v4) = _
  after_results
  have e : Pipeline.withArrays (cfgs 0).spec c (V0 m c) (fun w => (dats m 0 c).arrAt w (cfgs 0).N)
      (Proc.devRef .tc main_v2) = _ :=
    (Pipeline.withArrays_arr spec0 (by decide) c _ _ 2).trans (region_result m c)
  rw [e]
  funext i
  pointwise

/-- THE KERNEL'S RUN: it ends, its result is the total over the number of samples, its arguments are unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v4)
          = (fun _ => Ideal.div (total (m ((c.tc : Thread nD τ).loc main_arg0)) (m ((c.tc : Thread nD τ).loc main_arg1)))
              (Ideal.ofBits .f32 0x46800000#32))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(((h.1 c).2 main_v4 (Pipeline.mem_restRefs_of main_v4 (by decide) (by decide))).trans
      (tail_result m c)), h.2 c⟩)
    (θ_run_and (run_main m ρ) (unchanged m ρ))

end Amce

end
-- ==== Proof.RefScatter.lean ====
/- The reference's scatters. Both write 1.0 at (sample, label), one write per sample: so an element of
   the result is 1.0 in its sample's label column, and the operand's element elsewhere. -/
module

public import proofs.«01_k».proof.Proof.Gen.ReferenceIdeal
public import Idealize.ShloMosaic.Lib.Routing.OpsSet
public import Idealize.ShloMosaic.Lib.Pointwise

@[expose] public section

set_option maxRecDepth 16384

noncomputable section

namespace Amce

open Idealize.ShloMosaic Cert.ReferenceIdeal Cert.ReferenceIdeal.Gen

/-- The scatters' dimension numbers. -/
abbrev rowCol : ScatterDims S16384x1000 S16384x2 S16384 := scatter_S16384x1000_S16384x2_S16384_n_01_01_1

/-- The two words of an update are the two coordinates it starts at. -/
theorem rowCol_start (k : Fin 16384) (idx : IVec S16384x2 32) :
    rowCol.start (ix1 k) idx 0 = (idx (ix2 k 0)).toInt ∧ rowCol.start (ix1 k) idx 1 = (idx (ix2 k 1)).toInt := by
  constructor
  · unfold ScatterDims.start
    rw [dif_pos (by decide)]
    congr 2
    funext b
    match b with
    | ⟨0, _⟩ => rfl
    | ⟨1, _⟩ => rfl
  · unfold ScatterDims.start
    rw [dif_pos (by decide)]
    congr 2
    funext b
    match b with
    | ⟨0, _⟩ => rfl
    | ⟨1, _⟩ => rfl

/-- Both operand axes are inserted: an update has no window coordinate. -/
theorem rowCol_window (k : Fin 16384) (a : Fin 2) : rowCol.window (ix1 k) a = 0 := by
  unfold ScatterDims.window
  rw [dif_neg (by revert a; decide)]

/-- Where an update lands. -/
theorem rowCol_lands (k : Fin 16384) (idx : IVec S16384x2 32) (r : Fin 16384) (c : Fin 1000) :
    rowCol.resultIdx? (ix1 k) idx = some (ix2 r c)
      ↔ (idx (ix2 k 0)).toInt = (r.val : Int) ∧ (idx (ix2 k 1)).toInt = (c.val : Int) := by
  rw [Routing.resultIdx?_eq_some]
  refine Fin.forall_fin_two.trans ?_
  rw [(rowCol_start k idx).1, (rowCol_start k idx).2, rowCol_window k 0, rowCol_window k 1, Nat.cast_zero,
    add_zero, add_zero]
  exact Iff.rfl

/-- THE SCATTER, read at an element, when update `k`'s words are `k` and `lab k` and every update is `v`. -/
theorem scatter_at {α : Type} (x : S16384x1000.Idx → α) (idx : IVec S16384x2 32) (u : S16384.Idx → α) (v : α)
    (hu : ∀ k, u k = v) (lab : Fin 16384 → BitVec 32) (h0 : ∀ k : Fin 16384, (idx (ix2 k 0)).toInt = (k.val : Int))
    (h1 : ∀ k : Fin 16384, idx (ix2 k 1) = lab k) (r : Fin 16384) (c : Fin 1000) :
    Host.scatter rowCol (fun _ b => b) x idx u (ix2 r c)
      = if (lab r).toInt = (c.val : Int) then v else x (ix2 r c) := by
  split
  · next h =>
    exact Routing.scatter_set_hit rowCol x idx u _ v (fun k _ => hu k) (ix1 r)
      ((rowCol_lands r idx r c).mpr ⟨h0 r, by rw [h1]; exact h⟩)
  · next h =>
    refine Routing.scatter_set_miss rowCol x idx u _ fun k hk => h ?_
    obtain ⟨n, rfl⟩ : ∃ n : Fin 16384, k = ix1 n := ⟨k 0, funext fun a => by match a with | ⟨0, _⟩ => rfl⟩
    have hl := (rowCol_lands n idx r c).mp hk
    rw [h0, h1] at hl
    have hn : n = r := Fin.ext (by exact_mod_cast hl.1)
    rw [← hn]
    exact hl.2

end Amce

end
-- ==== Proof.RefSort.lean ====
/- The reference's sort along the classes, and the last class of the sorted row: the row's greatest
   element. -/
module

public import proofs.«01_k».proof.Proof.Gen.ReferenceIdeal
public import Idealize.ShloMosaic.Lib.SortFacts
public import Idealize.ShloMosaic.Lib.Pointwise
public import Idealize.ShloMosaic.PureOps.Ideal.Laws

@[expose] public section

set_option maxRecDepth 16384

noncomputable section

namespace Amce

open Idealize.ShloMosaic Cert.ReferenceIdeal Cert.ReferenceIdeal.Gen

/-- Over the extended reals, which have one zero and no not-a-number, the sort's comparator is the order. -/
theorem comparator_eq (a b : EReal) : comparator_f32_d1 (F := Ideal) a b = BitVec.ofBool (decide (a < b)) := by
  have hz : ∀ v : EReal, Scalar.select (Ideal.cmp .une v v) (Ideal.ofBits .f32 0x7FC00000#32)
      (Scalar.select (Ideal.cmp .oeq v (Ideal.ofBits .f32 0x00000000#32)) (Ideal.ofBits .f32 0x00000000#32) v) = v := by
    intro v
    by_cases h : v = 0 <;> simp [Scalar.select, Ideal.cmp, h]
  show Ideal.cmp .olt (Scalar.select _ _ _) (Scalar.select _ _ _) = _
  refine (congrArg₂ (Ideal.cmp .olt) (hz a) (hz b)).trans rfl

/-- Below the last position of a row sorted by an order, nothing is greater than what the last position holds. -/
theorem le_sortedFrom_last {n : Nat} (f : Fin n → EReal) (last : Fin n) (hlast : ∀ i : Fin n, i ≤ last) (k : Fin n) :
    f k ≤ f (sortedFrom (fun i j => BitVec.ofBool (decide (f i < f j)) == 1#1) last) := by
  have hB : ∀ a b : Fin n, (BitVec.ofBool (decide (f a < f b)) == 1#1) = decide (f a < f b) := fun a b => by
    by_cases h : f a < f b <;> simp [h]
  simp only [hB]
  obtain ⟨i, rfl⟩ := sortedFrom_surjective (fun i j : Fin n => decide (f i < f j)) k
  rcases (hlast i).eq_or_lt with h | h
  · rw [h]
  · have := sortedFrom_noInversion (fun i j : Fin n => decide (f i < f j)) (fun i j : Fin n => decide (f i < f j))
      (fun a b hab => by simp only [decide_eq_true_eq, decide_eq_false_iff_not] at *; exact not_lt.mpr hab.le)
      (fun a b hab => hab)
      (fun a b c hab hbc => by
        simp only [decide_eq_false_iff_not, not_lt] at *
        exact hbc.trans hab) i last h
    simpa using this

/-- THE LAST CLASS OF A SORTED ROW: it is one of the row's elements, and none of them is greater. -/
theorem sort_last (x : S16384x1000.Idx → EReal) (r : Fin 16384) :
    (∀ k : Fin 1000, x (ix2 r k) ≤ Host.sort S16384x1000 1 (comparator_f32_d1 (F := Ideal)) x (ix2 r 999))
      ∧ ∃ k : Fin 1000, Host.sort S16384x1000 1 (comparator_f32_d1 (F := Ideal)) x (ix2 r 999) = x (ix2 r k) := by
  have hal : ∀ k : Fin 1000, (Shape.Idx.along (ix2 r 999 : S16384x1000.Idx) (1 : Fin 2) k) = ix2 r k := fun k => by
    funext a
    match a with
    | ⟨0, _⟩ => rfl
    | ⟨1, _⟩ => rfl
  have hs : Host.sort S16384x1000 1 (comparator_f32_d1 (F := Ideal)) x (ix2 r 999)
      = x (ix2 r (sortedFrom (fun i j : Fin 1000 =>
          BitVec.ofBool (decide (x (ix2 r i) < x (ix2 r j))) == 1#1) (999 : Fin 1000))) := by
    unfold Host.sort
    rw [dif_pos (by decide)]
    refine (congrArg x (hal _)).trans (congrArg (fun b => x (ix2 r (sortedFrom b (999 : Fin 1000)))) ?_)
    funext i j
    exact (congrArg₂ (fun a b => comparator_f32_d1 (F := Ideal) a b == 1#1) (congrArg x (hal i))
      (congrArg x (hal j))).trans (congrArg (· == 1#1) (comparator_eq _ _))
  rw [hs]
  exact ⟨fun k => le_sortedFrom_last (fun i => x (ix2 r i)) 999 (fun i => Fin.le_last i) k, _, rfl⟩

end Amce

end
-- ==== Proof.RefValue.lean ====
/- The reference read as mathematics: the sum of `refTerm` over all 16384 samples and 1000 classes, divided
   by the constant the program divides by, where every label names a class. -/
module

public import proofs.«01_k».proof.Proof.Scalar
public import proofs.«01_k».proof.Proof.RefScatter
public import proofs.«01_k».proof.Proof.RefSort
public import proofs.«01_k».proof.Proof.KerBlock
public import proofs.«01_k».proof.Proof.Gen.ReferenceIdeal.Read

@[expose] public section

set_option maxRecDepth 16384

noncomputable section

namespace Amce

open Idealize.ShloMosaic Cert.ReferenceIdeal Cert.ReferenceIdeal.Gen Cert.ReferenceIdeal.Read

/-- The type of the reference's logits, -/
abbrev Logits := (⟨S16384x1000, .f32⟩ : BufTy).Contents (Elt Ideal)
/-- and of its labels. -/
abbrev Labels := (⟨S16384, .i32⟩ : BufTy).Contents (Elt Ideal)

/-- Every label names a class. -/
def InRange (l : Labels) : Prop := ∀ k : Fin 16384, 0 ≤ (l (ix1 k)).toInt ∧ (l (ix1 k)).toInt < 1000

/-- No entry of a row is greater than its `top`. -/
theorem le_top_row (f : Fin 1000 → EReal) (k : Fin 1000) : f k ≤ top f :=
  Finset.le_fold_max (f k) |>.mpr (.inr ⟨k, Finset.mem_univ k, le_rfl⟩)

/-- Some entry of a row is its `top`. -/
theorem top_mem (f : Fin 1000 → EReal) : ∃ k, top f = f k := by
  obtain ⟨k, hk⟩ := Finite.exists_max f
  refine ⟨k, le_antisymm ?_ (le_top_row f k)⟩
  exact Finset.fold_max_le _ |>.mpr ⟨bot_le, fun i _ => hk i⟩

/-- The sigmoid of the reference. -/
theorem sigmoid_at (x : Logits) (r : Fin 16384) (c : Fin 1000) :
    val_main_v22 (F := Ideal) x (ix2 r c) = Ideal.logistic (x (ix2 r c)) := by
  pointwise [val_main_v22, val_main_v21, val_main_v20, val_main_v19, val_main_v18, val_main_v17, val_main_cst_4, val_main_cst_5]
  rfl

/-- THE GREATEST SIGMOID of a row is the sigmoid of the row's greatest logit. -/
theorem greatest_sigmoid (x : Logits) (r : Fin 16384) :
    val_main_v23 (F := Ideal) x (ix2 r 999) = Ideal.logistic (top fun k : Fin 1000 => x (ix2 r k)) := by
  obtain ⟨hle, k, hk⟩ := sort_last (val_main_v22 (F := Ideal) x) r
  obtain ⟨q, hq⟩ := top_mem fun k => x (ix2 r k)
  refine le_antisymm ?_ ?_
  · rw [show val_main_v23 (F := Ideal) x (ix2 r 999) = _ from hk, sigmoid_at, logistic_eq_sgm, logistic_eq_sgm]
    exact EReal.coe_le_coe_iff.mpr (sgm_mono (le_top_row (fun k => x (ix2 r k)) k))
  · rw [show (top fun k : Fin 1000 => x (ix2 r k)) = x (ix2 r q) from hq, ← sigmoid_at]
    exact hle q

/-- A word that is not negative is not wrapped. -/
theorem no_wrap {w : BitVec 32} (h : 0 ≤ w.toInt) (u : BitVec 32) :
    Scalar.select (IntOp.cmpi .slt w 0#32) u w = w := by
  have e : w.slt 0#32 = false := by simpa [BitVec.slt] using h
  simp [Scalar.select, IntOp.cmpi, e]

/-- The number of a row, as a signed word. -/
theorem row_toInt (k : Fin 16384) : (BitVec.ofNat 32 k.val).toInt = (k.val : Int) := by
  have hk := k.isLt
  rw [BitVec.toInt_eq_toNat_of_lt] <;> rw [BitVec.toNat_ofNat, Nat.mod_eq_of_lt (by omega)]
  omega

/-- A truth value as a number. -/
theorem number_of_bool (p : Prop) [Decidable p] :
    (FloatOps.uitofp (F := Ideal) .f32 (BitVec.ofBool (decide p)) : EReal) = if p then 1 else 0 := by
  by_cases h : p <;> simp [h, FloatOps.uitofp]

/-- The word of a sample's row, not being negative, is not wrapped. -/
theorem row_word (k : Fin 16384) : val_main_v6 (F := Ideal) (ix1 k) = BitVec.ofNat 32 k.val := by
  pointwise [val_main_v6, val_main_v3, val_main_v0, val_main_v2, val_main_c]
  exact no_wrap (by rw [row_toInt]; omega) _

/-- The word of a label, not being negative, is not wrapped. -/
theorem label_word (l : Labels) (h : InRange l) (k : Fin 16384) : val_main_v11 (F := Ideal) l (ix1 k) = l (ix1 k) := by
  pointwise [val_main_v11, val_main_v8, val_main_v7, val_main_c_1]
  exact no_wrap (h k).1 _

/-- The words of sample `k`'s write: its row, and its label. -/
theorem write_words (l : Labels) (h : InRange l) (k : Fin 16384) :
    val_main_v14 (F := Ideal) l (ix2 k 0) = BitVec.ofNat 32 k.val ∧ val_main_v14 (F := Ideal) l (ix2 k 1) = l (ix1 k) := by
  constructor
  · rw [← row_word]
    pointwise [val_main_v14, val_main_v12]
  · rw [← label_word l h]
    pointwise [val_main_v14, val_main_v13]

/-- A scatter of ones at the labels: one at a sample's label, what was there elsewhere. -/
theorem ones_at (x : Logits) (l : Labels) (h : InRange l) (r : Fin 16384) (c : Fin 1000) :
    Host.scatter rowCol (fun _ b => b) x (val_main_v14 (F := Ideal) l) (val_main_v15 (F := Ideal)) (ix2 r c)
      = if (l (ix1 r)).toInt = (c.val : Int) then (1 : EReal) else x (ix2 r c) := by
  refine scatter_at x _ _ (1 : EReal) (fun k => ?_) (fun k => l (ix1 k)) (fun k => ?_) (fun k => (write_words l h k).2) r c
  · obtain ⟨k, rfl⟩ : ∃ q, k = ix1 q := ⟨_, (ix1_eta k).symm⟩
    pointwise [val_main_v15, val_main_cst_3]
  · rw [(write_words l h k).1, row_toInt]

/-- The weight of a class: whether its sigmoid is close below the greatest. -/
theorem near_at (x : Logits) (r : Fin 16384) (c : Fin 1000) :
    val_main_v33 (F := Ideal) x (ix2 r c)
      = if 0 < Ideal.logistic (x (ix2 r c)) - (Ideal.logistic (top fun k : Fin 1000 => x (ix2 r k)) - step) then (1 : EReal) else 0 := by
  rw [← greatest_sigmoid, ← sigmoid_at]
  pointwise [val_main_v33, val_main_v32, val_main_v31, val_main_v30, val_main_v29, val_main_v28, val_main_v27,
    val_main_v26, val_main_v25, val_main_v24, val_main_cst_6, val_main_cst_7]
  exact number_of_bool _

/-- One summand of the reference. -/
theorem summand_at (x : Logits) (l : Labels) (h : InRange l) (r : Fin 16384) (c : Fin 1000) :
    val_main_v58 (F := Ideal) x l (ix2 r c)
      = refTerm step (Ideal.logistic (top fun k : Fin 1000 => x (ix2 r k))) (x (ix2 r c)) ((l (ix1 r)).toInt = (c.val : Int)) := by
  have e16 : val_main_v16 (F := Ideal) l (ix2 r c) = if (l (ix1 r)).toInt = (c.val : Int) then (1 : EReal) else 0 := by
    refine (ones_at _ l h r c).trans ?_
    pointwise [val_main_v1, val_main_cst]
  have e48 : val_main_v48 (F := Ideal) x l (ix2 r c) = if (l (ix1 r)).toInt = (c.val : Int) then (1 : EReal) else val_main_v33 (F := Ideal) x (ix2 r c) :=
    ones_at _ l h r c
  rw [near_at] at e48
  unfold refTerm
  rw [← e16, ← e48]
  pointwise [val_main_v58, val_main_v57, val_main_v56, val_main_v55, val_main_v54, val_main_v53, val_main_v52, val_main_v51, val_main_v50,
    val_main_v49, val_main_cst_13]
  rfl

/-- A class is the label's, said of the words and said of the numbers. -/
theorem is_label (l : Labels) (h : InRange l) (r : Fin 16384) (c : Fin 1000) :
    (l (ix1 r)).toInt = (c.val : Int) ↔ BitVec.ofNat 32 c.val = l (ix1 r) := by
  have hc : (BitVec.ofNat 32 c.val).toInt = (c.val : Int) := row_toInt ⟨c.val, by omega⟩
  rw [← hc]
  exact ⟨fun e => (BitVec.eq_of_toInt_eq e).symm, fun e => congrArg BitVec.toInt e.symm⟩

/-- A summand of the reference is the kernel's term. -/
theorem summand_eq_kerTerm (x : Logits) (l : Labels) (h : InRange l) (r : Fin 16384) (c : Fin 1000) :
    val_main_v58 (F := Ideal) x l (ix2 r c)
      = kerTerm step (top fun k : Fin 1000 => x (ix2 r k)) (x (ix2 r c)) (BitVec.ofNat 32 c.val = l (ix1 r)) := by
  obtain ⟨d, hd, e⟩ := step_pos
  rw [summand_at x l h r c, show step = (d : EReal) from e, kerTerm_eq_refTerm hd]
  unfold refTerm
  simp only [is_label l h r c]

/-- THE REFERENCE: the kernel's terms over all samples and classes, over the number of samples. -/
theorem reference_value (x : Logits) (l : Labels) (h : InRange l) :
    val_main_v60 (F := Ideal) x l
      = fun _ => Ideal.div (∑ r : Fin 16384, ∑ c : Fin 1000,
          kerTerm step (top fun k : Fin 1000 => x (ix2 r k)) (x (ix2 r c)) (BitVec.ofNat 32 c.val = l (ix1 r)))
          (Ideal.ofBits .f32 0x46800000#32) := by
  funext i
  rw [val_main_v60_apply, val_main_v59_apply, sum_idx2]
  simp only [summand_eq_kerTerm x l h]
  pointwise [val_main_cst_14, val_main_cst_15]

end Amce

end
-- ==== Proof.Claims.lean ====
/- The claims, one theorem each, from the two programs' runs. -/
module

public import proofs.«01_k».proof.Defs
public import proofs.«01_k».proof.Proof.KerValue
public import proofs.«01_k».proof.Proof.RefValue
public import Idealize.ShloMosaic.Lib.Claim
public import Idealize.ShloMosaic.Lib.Quiescent

@[expose] public section

set_option maxRecDepth 16384

noncomputable section

namespace Amce

open Idealize.ShloMosaic Idealize.ShloMosaic.TcCoe Idealize.SL.Sem

/-- The precondition's one side condition. -/
theorem pre_facts : Cert.Pre_labels_in_range.Facts := ⟨Cert.ReferenceIdeal.Gen.facts.bcast_S_S16384⟩

/-- The reference ends with its arguments unchanged, and, having no semaphore, with every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run _ _ _).mono (fun _ h => ⟨fun c => (h c).2, sem_eq_zero_of_no_sems (by decide) _⟩)
    (Cert.ReferenceIdeal.Value.run m g)

/-- The precondition's test of one label, read as a range. -/
theorem range_of_word (w : BitVec 32)
    (h : IntOp.andi (IntOp.cmpi .sge w 0#32) (IntOp.cmpi .slt w 1000#32) = 1#1) : 0 ≤ w.toInt ∧ w.toInt < 1000 := by
  have e : ((0#32).sle w && w.slt 1000#32) = true := by
    revert h
    unfold IntOp.andi IntOp.cmpi
    dsimp only
    cases (0#32).sle w <;> cases w.slt 1000#32 <;> decide
  rw [Bool.and_eq_true, BitVec.sle, BitVec.slt, decide_eq_true_eq, decide_eq_true_eq] at e
  exact e

/-- The precondition, read of the labels: every label names a class. -/
theorem in_range [Cert.Pre_labels_in_range.Facts] (x : Logits) (l : Labels)
    (h : Cert.Pre_labels_in_range.fn (F := Ideal) x l = fun _ => 1#1) : InRange l := by
  intro k
  have e := congrFun h (ix1 k)
  revert e
  pointwise [Cert.Pre_labels_in_range.fn]
  exact range_of_word _

/-- ALGEBRAIC: the kernel's result is the reference's. -/
theorem kernel_is_reference :
    Cert.algebraic_KernelIdeal_ReferenceIdeal_pre_labels_in_range (hKernelIdeal := Cert.KernelIdeal.Gen.facts)
      (hReferenceIdeal := Cert.ReferenceIdeal.Gen.facts) (hPre_labels_in_range := pre_facts) := by
  intro m g m' g' hpre hagree
  refine ⟨_, kernel_run m g, (θ_run _ _ _).mono (fun r h c => ⟨(h c).1.trans ?_, (h c).2⟩) (Cert.ReferenceIdeal.Value.run m' g')⟩
  refine (Cert.ReferenceIdeal.Read.val_main_v60_eq _ _).trans ?_
  rw [(hagree c).1, (hagree c).2]
  exact reference_value _ _ (@in_range pre_facts _ _ (hpre c))

end Amce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Amce.pre_facts,
    fun m g _ => Cert.Kernel.Gen.frame m g,
    fun m g _ => Cert.KernelIdeal.Gen.frame m g,
    fun m g _ => Cert.KernelIdeal.Gen.frame m g,
    fun m g _ => Amce.reference_frame m g,
    fun m g _ => Amce.reference_frame m g,
    ⟨IdealRules.named_const.statement Cert.KernelIdeal.κ "neg_log2e" .f32 0xBFB8AA3B#32 _ rfl,
      IdealRules.named_const.statement Cert.KernelIdeal.κ "log2e" .f32 0x3FB8AA3B#32 _ rfl,
      IdealRules.named_const.statement Cert.KernelIdeal.κ "ln2" .f32 0x3F317218#32 _ rfl⟩,
    Amce.kernel_is_reference⟩

end Cert.Proof

end
